-- ==== Defs.lean ====
def Pre_Kernel [hPre_length_in_range : Cert.Pre_length_in_range.Facts] (m : (ℓ : Loc Cert.Kernel.nD Cert.Kernel.τ Cert.Kernel.sig) → Buf (Elt Bits) ℓ) : Prop :=
  ∀ c : Dev Cert.Kernel.nD,
    (Cert.Pre_length_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_length_in_range : Cert.Pre_length_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_length_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_length_in_range [hPre_length_in_range : Cert.Pre_length_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_length_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_length_in_range : Cert.Pre_length_in_range.Facts] (m : (ℓ : Loc Cert.Reference.nD Cert.Reference.τ Cert.Reference.sig) → Buf (Elt Bits) ℓ) : Prop :=
  ∀ c : Dev Cert.Reference.nD,
    (Cert.Pre_length_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] [hPre_length_in_range : Cert.Pre_length_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_length_in_range : Cert.Pre_length_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_length_in_range [hReferenceIdeal : Cert.ReferenceIdeal.Facts] [hPre_length_in_range : Cert.Pre_length_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_length_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_length_in_range : Cert.Pre_length_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def bitexact_Kernel_Reference [hKernel : Cert.Kernel.Facts] [hReference : Cert.Reference.Facts] [hPre_length_in_range : Cert.Pre_length_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v2_0)) (v1 : (c : Dev Cert.Kernel.nD) → Buf (Elt Bits) ((c.tc : Thread Cert.Kernel.nD Cert.Kernel.τ).loc Cert.Kernel.main_v2_1)) (v2 : (c : Dev Cert.Kernel.nD) → Buf (Elt Bits) ((c.tc : Thread Cert.Kernel.nD Cert.Kernel.τ).loc Cert.Kernel.main_v2_2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2_0) = v0 c
          ∧ r.2.mem ((c.tc : Thread Cert.Kernel.nD Cert.Kernel.τ).loc Cert.Kernel.main_v2_1) = v1 c
          ∧ r.2.mem ((c.tc : Thread Cert.Kernel.nD Cert.Kernel.τ).loc Cert.Kernel.main_v2_2) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_v3) = v1 c
          ∧ r.2.mem ((c.tc : Thread Cert.Reference.nD Cert.Reference.τ).loc Cert.Reference.main_v4) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def algebraic_KernelIdeal_ReferenceIdeal [hKernelIdeal : Cert.KernelIdeal.Facts] [hReferenceIdeal : Cert.ReferenceIdeal.Facts] [hPre_length_in_range : Cert.Pre_length_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hPre_length_in_range : Cert.Pre_length_in_range.Facts),
    quiescent_Kernel (hKernel := hKernel) (hPre_length_in_range := hPre_length_in_range)
    ∧ quiescent_KernelIdeal (hKernelIdeal := hKernelIdeal) (hPre_length_in_range := hPre_length_in_range)
    ∧ quiescent_ReferenceIdeal (hReferenceIdeal := hReferenceIdeal)
    ∧ quiescent_ReferenceIdeal_pre_length_in_range (hReferenceIdeal := hReferenceIdeal) (hPre_length_in_range := hPre_length_in_range)
    ∧ quiescent_Reference (hReference := hReference) (hPre_length_in_range := hPre_length_in_range)
    ∧ preserves_Kernel_KernelIdeal
    ∧ bitexact_Kernel_Reference (hKernel := hKernel) (hReference := hReference) (hPre_length_in_range := hPre_length_in_range)
    ∧ algebraic_KernelIdeal_ReferenceIdeal (hKernelIdeal := hKernelIdeal) (hReferenceIdeal := hReferenceIdeal) (hPre_length_in_range := hPre_length_in_range)
-- ==== Pre_length_in_range.lean ====
abbrev S200x1000 : Shape := ⟨2, ![200, 1000]⟩
abbrev S200x100000 : Shape := ⟨2, ![200, 100000]⟩
abbrev S200x200 : Shape := ⟨2, ![200, 200]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S200x1000 .f32) (main_arg1 : FVec F S200x100000 .f32) (main_arg2 : FVec F S200x200 .f32) (main_arg3 : IVec S1 32) : IVec S_ 1 :=
  let main_v0 : IVec S_ 32 := shapeCast S_ main_arg3 shapeCasts_S1_S_
  let main_c : IVec S_ 32 := constantI S_ 32 1#32
  let main_v1 : IVec S_ 1 := cmpi .sge main_v0 main_c
  let main_v2 : IVec S_ 32 := shapeCast S_ main_arg3 shapeCasts_S1_S_
  let main_c_0 : IVec S_ 32 := constantI S_ 32 200#32
  let main_v3 : IVec S_ 1 := cmpi .sle main_v2 main_c_0
  let main_v4 : IVec S_ 1 := andi main_v1 main_v3
  main_v4
-- ==== Kernel.lean ====
abbrev S200x1000 : Shape := ⟨2, ![200, 1000]⟩
abbrev S200x100000 : Shape := ⟨2, ![200, 100000]⟩
abbrev S200x200 : Shape := ⟨2, ![200, 200]⟩
abbrev S1 : Shape := ⟨1, ![1]⟩
abbrev S_ : Shape := ⟨0, ![]⟩
abbrev S1000 : Shape := ⟨1, ![1000]⟩
abbrev S100000 : Shape := ⟨1, ![100000]⟩
abbrev S200 : Shape := ⟨1, ![200]⟩
abbrev S8x1000 : Shape := ⟨2, ![8, 1000]⟩
abbrev S8x100000 : Shape := ⟨2, ![8, 100000]⟩
abbrev S8x200 : Shape := ⟨2, ![8, 200]⟩
abbrev S1x1000 : Shape := ⟨2, ![1, 1000]⟩
abbrev S1x100000 : Shape := ⟨2, ![1, 100000]⟩
abbrev S1x200 : Shape := ⟨2, ![1, 200]⟩

abbrev nBuf : Space → Nat
  | .hbm => 9
  | .vmem => 6
  | .smem => 1
  | _ => 0

abbrev bufTy : (tb : Table) → Fin (tcTables nBuf tb) → BufTy
  | .hbm, ⟨0, _⟩ => ⟨S200x1000, .f32⟩
  | .hbm, ⟨1, _⟩ => ⟨S200x100000, .f32⟩
  | .hbm, ⟨2, _⟩ => ⟨S200x200, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1000, .f32⟩
  | .hbm, ⟨7, _⟩ => ⟨S100000, .f32⟩
  | .hbm, ⟨8, _⟩ => ⟨S200, .f32⟩
  | .local _ .vmem, ⟨0, _⟩ => ⟨S8x1000, .f32⟩
  | .local _ .vmem, ⟨1, _⟩ => ⟨S8x100000, .f32⟩
  | .local _ .vmem, ⟨2, _⟩ => ⟨S8x200, .f32⟩
  | .local _ .vmem, ⟨3, _⟩ => ⟨S1000, .f32⟩
  | .local _ .vmem, ⟨4, _⟩ => ⟨S100000, .f32⟩
  | .local _ .vmem, ⟨5, _⟩ => ⟨S200, .f32⟩
  | .local _ .smem, ⟨0, _⟩ => ⟨S1, .i32⟩
  | _, _ => ⟨S200x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : Index := Scalar.indexCast v10
  let c0_3 : Index := 0#32
  ![v11.toNat, 0]

def k0_off2 (v0 : BitVec 32) : Fin 2 → Nat :=
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v15 : Index := Scalar.indexCast v10
  let c0_5 : Index := 0#32
  ![v15.toNat, 0]
def k0_off3 (v0 : BitVec 32) : Fin 2 → Nat :=
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v19 : Index := Scalar.indexCast v10
  let c0_7 : Index := 0#32
  ![v19.toNat, 0]

def k0_chk1 (v0 : BitVec 32) : Prop :=
  (∀ a, (k0_off1 v0) a + S1x1000.size a ≤ S8x1000.size a) ∧
  (∀ a, (k0_off2 v0) a + S1x100000.size a ≤ S8x100000.size a) ∧
  (∀ a, (k0_off3 v0) a + S1x200.size a ≤ S8x200.size a)
theorem k0_off1_inb : ∀ (v0 : BitVec 32) (k0_hw1 : k0_chk1 v0), ∀ a, (k0_off1 v0) a + S1x1000.size a ≤ S8x1000.size a := fun v0 k0_hw1 => k0_hw1.1
theorem k0_off2_inb : ∀ (v0 : BitVec 32) (k0_hw1 : k0_chk1 v0), ∀ a, (k0_off2 v0) a + S1x100000.size a ≤ S8x100000.size a := fun v0 k0_hw1 => k0_hw1.2.1
theorem k0_off3_inb : ∀ (v0 : BitVec 32) (k0_hw1 : k0_chk1 v0), ∀ a, (k0_off3 v0) a + S1x200.size a ≤ S8x200.size a := fun v0 k0_hw1 => k0_hw1.2.2

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S8x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference.lean ====
abbrev S200x1000 : Shape := ⟨2, ![200, 1000]⟩
abbrev S200x100000 : Shape := ⟨2, ![200, 100000]⟩
abbrev S200x200 : Shape := ⟨2, ![200, 200]⟩
abbrev S1 : Shape := ⟨1, ![1]⟩
abbrev S_ : Shape := ⟨0, ![]⟩
abbrev S1000 : Shape := ⟨1, ![1000]⟩
abbrev S100000 : Shape := ⟨1, ![100000]⟩
abbrev S200 : Shape := ⟨1, ![200]⟩

abbrev nBuf : Space → Nat
  | .hbm => 64
  | .vmem => 0
  | .smem => 0
  | _ => 0

abbrev bufTy : (tb : Table) → Fin (tcTables nBuf tb) → BufTy
  | .hbm, ⟨0, _⟩ => ⟨S200x1000, .f32⟩
  | .hbm, ⟨1, _⟩ => ⟨S200x100000, .f32⟩
  | .hbm, ⟨2, _⟩ => ⟨S200x200, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S1, .i1⟩
  | .hbm, ⟨18, _⟩ => ⟨S1, .i1⟩
  | .hbm, ⟨19, _⟩ => ⟨S_, .i1⟩
  | .hbm, ⟨20, _⟩ => ⟨S_, .i1⟩
  | .hbm, ⟨21, _⟩ => ⟨S1000, .f32⟩
  | .hbm, ⟨22, _⟩ => ⟨S1000, .i1⟩
  | .hbm, ⟨23, _⟩ => ⟨S_, .f32⟩
  | .hbm, ⟨24, _⟩ => ⟨S1000, .f32⟩
  | .hbm, ⟨25, _⟩ => ⟨S1000, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S1, .i1⟩
  | .hbm, ⟨36, _⟩ => ⟨S1, .i1⟩
  | .hbm, ⟨37, _⟩ => ⟨S1, .i1⟩
  | .hbm, ⟨38, _⟩ => ⟨S_, .i1⟩
  | .hbm, ⟨39, _⟩ => ⟨S_, .i1⟩
  | .hbm, ⟨40, _⟩ => ⟨S100000, .f32⟩
  | .hbm, ⟨41, _⟩ => ⟨S100000, .i1⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S1, .i1⟩
  | .hbm, ⟨55, _⟩ => ⟨S1, .i1⟩
  | .hbm, ⟨56, _⟩ => ⟨S1, .i1⟩
  | .hbm, ⟨57, _⟩ => ⟨S_, .i1⟩
  | .hbm, ⟨58, _⟩ => ⟨S_, .i1⟩
  | .hbm, ⟨59, _⟩ => ⟨S200, .f32⟩
  | .hbm, ⟨60, _⟩ => ⟨S200, .i1⟩
  | .hbm, ⟨61, _⟩ => ⟨S_, .f32⟩
  | .hbm, ⟨62, _⟩ => ⟨S200, .f32⟩
  | .hbm, ⟨63, _⟩ => ⟨S200, .f32⟩
  | _, _ => ⟨S200x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_c_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_c_1 : Ref sig .tc := ⟨.hbm, 13, rfl⟩
abbrev main_call0_c_2 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_c_3 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_cst : Ref sig .tc := ⟨.hbm, 23, rfl⟩
abbrev main_call0_v11 : Ref sig .tc := ⟨.hbm, 24, rfl⟩
abbrev main_v2 : Ref sig .tc := ⟨.hbm, 25, rfl⟩
abbrev main_call1_c : Ref sig .tc := ⟨.hbm, 26, rfl⟩
abbrev main_call1_v0 : Ref sig .tc := ⟨.hbm, 27, rfl⟩
abbrev main_call1_c_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_c_2 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_c_3 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_cst : Ref sig .tc := ⟨.hbm, 42, rfl⟩
abbrev main_call1_v11 : Ref sig .tc := ⟨.hbm, 43, rfl⟩
abbrev main_v3 : Ref sig .tc := ⟨.hbm, 44, rfl⟩
abbrev main_call2_c : Ref sig .tc := ⟨.hbm, 45, rfl⟩
abbrev main_call2_v0 : Ref sig .tc := ⟨.hbm, 46, rfl⟩
abbrev main_call2_c_0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_c_1 : Ref sig .tc := ⟨.hbm, 51, rfl⟩
abbrev main_call2_c_2 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_c_3 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_cst : Ref sig .tc := ⟨.hbm, 61, rfl⟩
abbrev main_call2_v11 : Ref sig .tc := ⟨.hbm, 62, rfl⟩
abbrev main_v4 : Ref sig .tc := ⟨.hbm, 63, rfl⟩

abbrev nD : Nat := 1
abbrev τ : Topo := Topo.v7x

variable {F : FTy → Type} [FloatOps F]
-- ==== Proof.Row.lean ====
/-
  One row of a table with 200 rows, and how the kernel reaches it: the block of eight rows that holds it, and its place in
  that block. Everything is stated for any number of columns, so it serves the three tables alike.
-/
module

public import Idealize.ShloMosaic.Lib.Pipeline.Value
public import Idealize.ShloMosaic.Lib.Pipeline.ValueKit

@[expose] public section

namespace Cert.Row

open Idealize.ShloMosaic

variable {α : Type} {N C : Nat}

/-- Row `k` of a table, as an array of its columns. -/
def row (x : (⟨2, ![N, C]⟩ : Shape).Idx → α) (k : Fin N) : (⟨1, ![C]⟩ : Shape).Idx → α :=
  fun j => x (ix2 k (j 0))

/-- An array of one row with its row axis dropped is that row. -/
theorem shapeCast_row (v : (⟨2, ![1, C]⟩ : Shape).Idx → α) (h : (⟨2, ![1, C]⟩ : Shape).ShapeCasts ⟨1, ![C]⟩) :
    shapeCast ⟨1, ![C]⟩ v h = row v 0 := by
  funext j
  rw [shapeCast_dropUnit_apply (n := 1) ![C] v h j]
  unfold row
  congr 1
  funext a
  match a with
  | ⟨0, _⟩ => rfl
  | ⟨1, _⟩ => rfl

/-- One row loaded out of a block at a row offset `r`, with its row axis dropped, is row `r` of the block. -/
theorem load_row {Val : EltTy → Type} {e : EltTy} {B : Nat} (x : (⟨2, ![B, C]⟩ : Shape).Idx → Val e) (r : Nat) (hr : r < B)
    (off : Fin 2 → Nat) (hoff : off = ![r, 0])
    (inb : ∀ a, off a + (⟨2, ![1, C]⟩ : Shape).size a ≤ (⟨2, ![B, C]⟩ : Shape).size a)
    (h : (⟨2, ![1, C]⟩ : Shape).ShapeCasts ⟨1, ![C]⟩) :
    shapeCast ⟨1, ![C]⟩ (View.ld x (Rect.unit (s := ⟨2, ![B, C]⟩) off (⟨2, ![1, C]⟩ : Shape).size inb)) h = row x ⟨r, hr⟩ := by
  subst hoff
  refine (shapeCast_row _ h).trans (funext fun j => ?_)
  unfold row
  refine View.ld_unit_apply_of x _ _ inb _ _ fun a => ?_
  match a with
  | ⟨0, _⟩ => rfl
  | ⟨1, _⟩ => exact (Nat.zero_add _).symm

/-- Row `r` of the block of eight rows number `q` is row `8 q + r` of the table: `put` places the block's elements. -/
theorem block_row (x : (⟨2, ![N, C]⟩ : Shape).Idx → α) (b : (⟨2, ![8, C]⟩ : Shape).Idx → α)
    (put : (⟨2, ![8, C]⟩ : Shape).Idx → (⟨2, ![N, C]⟩ : Shape).Idx) (q : Nat) (hb : ∀ y, b y = x (put y))
    (hput : ∀ y a, (put y a : Nat) = ![q, 0] a * (⟨2, ![8, C]⟩ : Shape).size a + y a)
    (r : Fin 8) (k : Fin N) (hk : q * 8 + r.val = k.val) : row b r = row x k := by
  funext j
  refine (hb _).trans (congrArg x (funext fun a => Fin.ext ((hput _ a).trans ?_)))
  match a with
  | ⟨0, _⟩ => exact hk
  | ⟨1, _⟩ => show 0 * C + (j 0).val = (j 0).val; omega

end Cert.Row
-- ==== Proof.Word.lean ====
/-
  Word arithmetic of the row index. The kernel splits the index word into a block number and a row inside the block,
  by a division and a remainder that round toward minus infinity. A printed program writes each of them as a chain of
  comparisons and selects around the machine's own division, which rounds toward zero. On a word below 200 the chains are
  the quotient and the remainder of natural numbers.
-/
module

public import Idealize.ShloMosaic.Lib.Pipeline.Value
public import Idealize.ShloMosaic.Lib.Pipeline.ValueKit

@[expose] public section

namespace Cert.Word

open Idealize.ShloMosaic

/-- The sign of a word, as the programs compute it: 1, 0 or −1. -/
abbrev sign (v : BitVec 32) : BitVec 32 :=
  Scalar.subi (Scalar.extui (Scalar.cmpi .sgt v 0#32)) (Scalar.extui (Scalar.cmpi .slt v 0#32))

/-- The quotient by 8 rounded toward minus infinity, as the programs compute it. -/
def blockOf (v : BitVec 32) : BitVec 32 :=
  Scalar.select
    (Scalar.andi (Scalar.cmpi .ne (sign v) (sign 8#32)) (Scalar.cmpi .ne (Scalar.remsi v 8#32) 0#32))
    (Scalar.subi (Scalar.divsi v 8#32) 1#32) (Scalar.divsi v 8#32)

/-- The divisor of the remainder: 8, behind the test that keeps a zero divisor out. -/
abbrev divisor : BitVec 32 := Scalar.select (Scalar.cmpi .eq 8#32 0#32) 1#32 8#32

/-- The remainder by 8 with the sign of the divisor, as the programs compute it. -/
def rowOf (v : BitVec 32) : BitVec 32 :=
  Scalar.select
    (Scalar.andi
      (Scalar.xori (Scalar.cmpi .slt (Scalar.remsi v divisor) 0#32) (Scalar.cmpi .slt divisor 0#32))
      (Scalar.cmpi .ne (Scalar.remsi v divisor) 0#32))
    (Scalar.addi (Scalar.remsi v divisor) divisor) (Scalar.remsi v divisor)

/-- Below 200 both chains are the natural quotient and remainder, checked word by word. -/
theorem split_small : ∀ n : Fin 200,
    (blockOf (BitVec.ofNat 32 n.val)).toNat = n.val / 8 ∧ (rowOf (BitVec.ofNat 32 n.val)).toNat = n.val % 8 := by
  decide +kernel

theorem eq_ofNat (v : BitVec 32) : BitVec.ofNat 32 v.toNat = v := by simp

theorem blockOf_toNat {v : BitVec 32} (h : v.toNat < 200) : (blockOf v).toNat = v.toNat / 8 := by
  have := (split_small ⟨v.toNat, h⟩).1
  rwa [eq_ofNat] at this

theorem rowOf_toNat {v : BitVec 32} (h : v.toNat < 200) : (rowOf v).toNat = v.toNat % 8 := by
  have := (split_small ⟨v.toNat, h⟩).2
  rwa [eq_ofNat] at this

/-- A length in 1 … 200, read signed, less one is a word below 200. -/
theorem pred_lt {x : BitVec 32} (h1 : 1 ≤ x.toInt) (h2 : x.toInt ≤ 200) : (x - 1#32).toNat < 200 := by
  rw [BitVec.toInt_eq_toNat_cond] at h1 h2
  rw [BitVec.toNat_sub]
  have := x.isLt
  simp only [BitVec.toNat_ofNat]
  split at h1 <;> omega

/-- A word below 200 is itself when read signed. -/
theorem toInt_small {v : BitVec 32} (h : v.toNat < 200) : v.toInt = v.toNat := by
  rw [BitVec.toInt_eq_toNat_cond, if_pos (by omega)]

/-- A comparison's bit is 1 exactly when the comparison holds. -/
theorem bit_one (p : Bool) : BitVec.ofBool p = 1#1 ↔ p = true := by cases p <;> decide

/-- Two comparisons' bits have the conjunction 1 exactly when both hold. -/
theorem bits_one (p q : Bool) : IntOp.andi (BitVec.ofBool p) (BitVec.ofBool q) = 1#1 ↔ p = true ∧ q = true := by
  cases p <;> cases q <;> decide

end Cert.Word
-- ==== Proof.Side.lean ====
/-
  The kernel's index word and what the run needs of it. The host computes the word as the length less one; the kernel
  prefetches it. When it is below 200, each of the three blocks it names lies in its table and each row it names lies in its
  block: these are the pipeline's side condition of the prefetched word and the one the body assumes.
-/
module

public import proofs.«01_k».proof.Proof.Word
public import proofs.«01_k».proof.Proof.Gen.KernelIdeal.Frame

@[expose] public section

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The index word: the length less one. -/
def word : BitVec 32 :=
  (show (⟨S1, .i32⟩ : BufTy).Contents (Elt F) from m (((0 : Dev nD) : Thread nD τ).loc main_arg3)) (ix1 0) - 1#32

/-- The prefetched table holds the index word. -/
theorem tbl_word (i : S1.Idx) : (show (⟨S1, .i32⟩ : BufTy).Contents (Elt F) from tbl m 0) i = word m := by
  obtain rfl : i = ix1 0 := funext fun d => match d with | ⟨0, _⟩ => Subsingleton.elim (α := Fin 1) _ _
  unfold tbl word
  show (StableHlo.after hostOps0 (fun b => m ((0 : Dev nD), b)) main_v1 : (⟨S1, .i32⟩ : BufTy).Contents (Elt F)) _ = _
  simp only [hostOps0]
  after_results_simp
  rfl

/-- The word an index map loads from the table. -/
theorem at_word : (tbl m).at 0 (Rect.unit (s := S1) ![0] S1.size inb_S1_S1_0) numel1_S1 = word m := tbl_word m _

/-- The word the body loads from the table. -/
theorem body_word :
    tbM0_0.view.readAt (Elt F) (Rect.unit (s := S1) ![0] S1.size inb_S1_S1_0).toLoadRect (tbl m 0)
      (Shape.Idx.first (numel1_S1.symm ▸ Nat.one_pos)) = word m := tbl_word m _

/-! ## The printed index maps and row offsets are the chains of the word -/

theorem map_0 (i : grid0.Coords) : cc0_transform_0 inb_S1_S1_0 numel1_S1 (tbl m) i = ![(Word.blockOf (word m)).toNat, 0] := by
  rw [← at_word m]; rfl
theorem map_1 (i : grid0.Coords) : cc0_transform_1 inb_S1_S1_0 numel1_S1 (tbl m) i = ![(Word.blockOf (word m)).toNat, 0] := by
  rw [← at_word m]; rfl
theorem map_2 (i : grid0.Coords) : cc0_transform_2 inb_S1_S1_0 numel1_S1 (tbl m) i = ![(Word.blockOf (word m)).toNat, 0] := by
  rw [← at_word m]; rfl

theorem off_1 (v : BitVec 32) : k0_off1 v = ![(Word.rowOf v).toNat, 0] := rfl
theorem off_2 (v : BitVec 32) : k0_off2 v = ![(Word.rowOf v).toNat, 0] := rfl
theorem off_3 (v : BitVec 32) : k0_off3 v = ![(Word.rowOf v).toNat, 0] := rfl

/-! ## The side conditions -/

/-- A block of eight whole rows at a block number below 25 lies in a table of 200 rows. -/
theorem block_inside {C q : Nat} (hq : q < 25) (a : Fin 2) :
    (![q, 0] a + 1) * (⟨2, ![8, C]⟩ : Shape).size a ≤ (⟨2, ![200, C]⟩ : Shape).size a := by
  match a with
  | ⟨0, _⟩ => show (q + 1) * 8 ≤ 200; omega
  | ⟨1, _⟩ => show (0 + 1) * C ≤ C; omega

/-- A row at an offset below eight lies in its block. -/
theorem row_inside {C r : Nat} (hr : r < 8) (a : Fin 2) :
    ![r, 0] a + (⟨2, ![1, C]⟩ : Shape).size a ≤ (⟨2, ![8, C]⟩ : Shape).size a := by
  match a with
  | ⟨0, _⟩ => show r + 1 ≤ 8; omega
  | ⟨1, _⟩ => show 0 + C ≤ C; omega

variable {m}

/-- The blocks the word names lie in their tables. -/
theorem ok (h : (word m).toNat < 200) : Ok m := by
  have hq : (Word.blockOf (word m)).toNat < 25 := by rw [Word.blockOf_toNat h]; omega
  refine ⟨fun i => ⟨?_, Or.inl rfl⟩, fun i => ⟨?_, Or.inl rfl⟩, fun i => ⟨?_, Or.inl rfl⟩⟩
  · rw [map_0]; exact block_inside hq
  · rw [map_1]; exact block_inside hq
  · rw [map_2]; exact block_inside hq

/-- The rows a word below 200 names lie in their blocks. -/
theorem chk {v : BitVec 32} (h : v.toNat < 200) : k0_chk1 v := by
  have hr : (Word.rowOf v).toNat < 8 := by rw [Word.rowOf_toNat h]; omega
  unfold k0_chk1
  rw [off_1, off_2, off_3]
  exact ⟨row_inside hr, row_inside hr, row_inside hr⟩

/-- The condition the body assumes holds at every point. -/
theorem hyps (h : (word m).toNat < 200) : Hyps m (ok h) := Hyps.of fun c t => by
  unfold Hyps.p0
  rw [body_word]
  exact chk h

end Cert.KernelIdeal.Hand

end
-- ==== Proof.Body.lean ====
/-
  What one run of the kernel's body leaves in its three output buffers: of each input block, the row the index word names.
-/
module

public import proofs.«01_k».proof.Proof.Row
public import proofs.«01_k».proof.Proof.Side

@[expose] public section

noncomputable section

namespace Cert.KernelIdeal.Hand

open Cert.KernelIdeal Cert.KernelIdeal.Gen Idealize.ShloMosaic Idealize.ShloMosaic.TcCoe Idealize.SL.Sem

variable {F : FTy → Type} [FloatOps F]
/-- The row inside its block that a word below 200 names. -/
abbrev place {v : BitVec 32} (h : v.toNat < 200) : Fin 8 :=
  ⟨(Word.rowOf v).toNat, by rw [Word.rowOf_toNat h]; omega⟩

/-- The offset of a whole rank-1 store. -/
theorem start_zero : (![0] : Fin 1 → Nat) = fun _ => 0 := by decide

/-- The word the body loads from a table. -/
abbrev loaded (c : Dev nD) (xt : TbBuf0 (F := F) c tbM0_0) : BitVec 32 :=
  tbM0_0.view.readAt (Elt F) (Rect.unit (s := S1) ![0] S1.size inb_S1_S1_0).toLoadRect xt
    (Shape.Idx.first (numel1_S1.symm ▸ Nat.one_pos))

variable (c : Dev nD) (i : grid0.Coords)
  (a2 : Memref sig .tc .vmem S8x1000 .f32) (h2 : a2.IsWhole) (a3 : Memref sig .tc .vmem S8x100000 .f32) (h3 : a3.IsWhole)
  (a4 : Memref sig .tc .vmem S8x200 .f32) (h4 : a4.IsWhole) (a5 : Memref sig .tc .vmem S1000 .f32) (h5 : a5.IsWhole)
  (a6 : Memref sig .tc .vmem S100000 .f32) (h6 : a6.IsWhole) (a7 : Memref sig .tc .vmem S200 .f32) (h7 : a7.IsWhole)
  (x0 : Vec F S8x1000 .f32) (x1 : Vec F S8x100000 .f32) (x2 : Vec F S8x200 .f32)
  (xt : TbBuf0 (F := F) c tbM0_0) (hc : k0_chk1 (loaded c xt)) (h : (loaded c xt).toNat < 200)

/-- Output 1 holds the named row of input block 1. -/
theorem out_0 :
    out0_A_3 c i a2 h2 a3 h3 a4 h4 a5 h5 a6 h6 a7 h7 x0 x1 x2 xt hc = Row.row x0 (place h) := by
  unfold out0_A_3
  rw [View.read_writes_eq_canon _ _ _ (cover0_A_3 c i a2 h2 a3 h3 a4 h4 a5 h5 a6 h6 a7 h7 x0 x1 x2 xt hc)]
  unfold kernelRun0_A
  dsimp only
  rw [View.canon_unit_zero start_zero]
  unfold k0_pay1
  simp only [View.readAt_eq_ld, Memref.IsWhole.read_unread]
  exact Row.load_row x0 _ (place h).isLt _ (off_1 _) _ _

/-- Output 2 holds the named row of input block 2. -/
theorem out_1 :
    out0_A_4 c i a2 h2 a3 h3 a4 h4 a5 h5 a6 h6 a7 h7 x0 x1 x2 xt hc = Row.row x1 (place h) := by
  unfold out0_A_4
  rw [View.read_writes_eq_canon _ _ _ (cover0_A_4 c i a2 h2 a3 h3 a4 h4 a5 h5 a6 h6 a7 h7 x0 x1 x2 xt hc)]
  unfold kernelRun0_A
  dsimp only
  rw [View.canon_unit_zero start_zero]
  unfold k0_pay2
  simp only [View.readAt_eq_ld, Memref.IsWhole.read_unread]
  exact Row.load_row x1 _ (place h).isLt _ (off_2 _) _ _

/-- Output 3 holds the named row of input block 3. -/
theorem out_2 :
    out0_A_5 c i a2 h2 a3 h3 a4 h4 a5 h5 a6 h6 a7 h7 x0 x1 x2 xt hc = Row.row x2 (place h) := by
  unfold out0_A_5
  rw [View.read_writes_eq_canon _ _ _ (cover0_A_5 c i a2 h2 a3 h3 a4 h4 a5 h5 a6 h6 a7 h7 x0 x1 x2 xt hc)]
  unfold kernelRun0_A
  dsimp only
  rw [View.canon_unit_zero start_zero]
  unfold k0_pay3
  simp only [View.readAt_eq_ld, Memref.IsWhole.read_unread]
  exact Row.load_row x2 _ (place h).isLt _ (off_3 _) _ _

end Cert.KernelIdeal.Hand

end
-- ==== Proof.Result.lean ====
/-
  What the kernel's run leaves in its three result arrays, at any float instance: of each argument table, the row the index
  word names. The grid has one point. Each output block is its whole array and is written back once.
-/
module

public import proofs.«01_k».proof.Proof.Body
public import Idealize.ShloMosaic.Lib.StableHlo.Run
public import Idealize.ShloMosaic.Lib.Quiescent

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable {m : (ℓ : Loc nD τ sig) → Buf (Elt F) ℓ} (h : (word m).toNat < 200)

/-- The row of a table the index word names. -/
abbrev pick : Fin 200 := ⟨(word m).toNat, h⟩

/-- Block number and place in the block make up the row's number. -/
theorem pick_split : (Word.blockOf (word m)).toNat * 8 + (place h).val = (pick h).val := by
  show (Word.blockOf (word m)).toNat * 8 + (Word.rowOf (word m)).toNat = (word m).toNat
  rw [Word.blockOf_toNat h, Word.rowOf_toNat h]; omega

include h in
/-- The word the body loads is the index word, so it is below 200. -/
theorem loaded_lt : (loaded (0 : Dev nD) (tbl m 0)).toNat < 200 := by
  rw [show loaded (0 : Dev nD) (tbl m 0) = word m from body_word m]; exact h

/-- The word the body loads is the index word, so it names the same place in a block. -/
theorem place_loaded (h' : (loaded (0 : Dev nD) (tbl m 0)).toNat < 200) : place h' = place h :=
  Fin.ext (congrArg (fun v => (Word.rowOf v).toNat) (body_word m))

/-! ## The named row of each input block is the named row of its table -/

theorem block_0 (c : Dev nD) (t : Fin (cfgM m (ok h)).N) :
    Row.row (N := 8) (C := 1000) (iblk m (ok h) c 0 t) (place h)
      = Row.row (N := 200) (C := 1000) (m ((c : Thread nD τ).loc main_arg0)) (pick h) := by
  refine Row.block_row _ _ (((cfgM m (ok h)).win 0).rect t).emb (Word.blockOf (word m)).toNat (fun y => ?_) (fun y a => ?_) _ _
    (pick_split h)
  · exact congrFun (V_main_arg0 m c) _
  · refine (Pipeline.Window.rect_emb_val ((cfgM m (ok h)).win 0) t y a rfl).trans ?_
    exact congrArg (fun f : Fin 2 → Nat => f a * (S8x1000).size a + (y a).val) (map_0 m (grid0.coords t))

theorem block_1 (c : Dev nD) (t : Fin (cfgM m (ok h)).N) :
    Row.row (N := 8) (C := 100000) (iblk m (ok h) c 1 t) (place h)
      = Row.row (N := 200) (C := 100000) (m ((c : Thread nD τ).loc main_arg1)) (pick h) := by
  refine Row.block_row _ _ (((cfgM m (ok h)).win 1).rect t).emb (Word.blockOf (word m)).toNat (fun y => ?_) (fun y a => ?_) _ _
    (pick_split h)
  · exact congrFun (V_main_arg1 m c) _
  · refine (Pipeline.Window.rect_emb_val ((cfgM m (ok h)).win 1) t y a rfl).trans ?_
    exact congrArg (fun f : Fin 2 → Nat => f a * (S8x100000).size a + (y a).val) (map_1 m (grid0.coords t))

theorem block_2 (c : Dev nD) (t : Fin (cfgM m (ok h)).N) :
    Row.row (N := 8) (C := 200) (iblk m (ok h) c 2 t) (place h)
      = Row.row (N := 200) (C := 200) (m ((c : Thread nD τ).loc main_arg2)) (pick h) := by
  refine Row.block_row _ _ (((cfgM m (ok h)).win 2).rect t).emb (Word.blockOf (word m)).toNat (fun y => ?_) (fun y a => ?_) _ _
    (pick_split h)
  · exact congrFun (V_main_arg2 m c) _
  · refine (Pipeline.Window.rect_emb_val ((cfgM m (ok h)).win 2) t y a rfl).trans ?_
    exact congrArg (fun f : Fin 2 → Nat => f a * (S8x200).size a + (y a).val) (map_2 m (grid0.coords t))

/-! ## The three results -/

/-- What result 1 is shown to hold: the named row of table 1. -/
abbrev val_0 : (⟨S1000, .f32⟩ : BufTy).Contents (Elt F) :=
  Row.row (N := 200) (C := 1000) (m (((0 : Dev nD) : Thread nD τ).loc main_arg0)) (pick h)

/-- What result 2 is shown to hold: the named row of table 2. -/
abbrev val_1 : (⟨S100000, .f32⟩ : BufTy).Contents (Elt F) :=
  Row.row (N := 200) (C := 100000) (m (((0 : Dev nD) : Thread nD τ).loc main_arg1)) (pick h)

/-- What result 3 is shown to hold: the named row of table 3. -/
abbrev val_2 : (⟨S200, .f32⟩ : BufTy).Contents (Elt F) :=
  Row.row (N := 200) (C := 200) (m (((0 : Dev nD) : Thread nD τ).loc main_arg2)) (pick h)

/-- The body leaves the named row of table 1 in output 1. -/
theorem outs_0 (t : Fin (cfgM m (ok h)).N) : (outsAt0 m (ok h) (hyps h) 0 t).1 = val_0 h := by
  unfold outsAt0
  dsimp only
  refine (out_0 (F := F) 0 _ _ _ _ _ _ _ _ _ _ _ _ _ _ _ _ _ _ (loaded_lt h)).trans ?_
  refine (congrArg (Row.row _) (place_loaded h (loaded_lt h))).trans ?_
  exact block_0 h 0 t

/-- Output window 3's one block is its whole array. -/
theorem whole_0 : ((cfgM m (ok h)).win 3).WholeAt t0_0 :=
  ⟨flush0_3 _ _, fun t _ => fin_N0 t, fun a => match a with | ⟨0, _⟩ => ⟨rfl, rfl⟩⟩

theorem final_0 : (dats m (ok h) (hyps h) 0 0).arrAt 3 (cfgM m (ok h)).N = val_0 h :=
  (dats m (ok h) (hyps h) 0 0).arrAt_eq_of_after_last 3 t0_0 (whole_0 h) (val_0 h) fun j =>
    congrFun ((after0_3 m (ok h) (hyps h) 0 t0_0).trans (outs_0 h t0_0)) j

/-- The body leaves the named row of table 2 in output 2. -/
theorem outs_1 (t : Fin (cfgM m (ok h)).N) : (outsAt0 m (ok h) (hyps h) 0 t).2.1 = val_1 h := by
  unfold outsAt0
  dsimp only
  refine (out_1 (F := F) 0 _ _ _ _ _ _ _ _ _ _ _ _ _ _ _ _ _ _ (loaded_lt h)).trans ?_
  refine (congrArg (Row.row _) (place_loaded h (loaded_lt h))).trans ?_
  exact block_1 h 0 t

/-- Output window 4's one block is its whole array. -/
theorem whole_1 : ((cfgM m (ok h)).win 4).WholeAt t0_0 :=
  ⟨flush0_4 _ _, fun t _ => fin_N0 t, fun a => match a with | ⟨0, _⟩ => ⟨rfl, rfl⟩⟩

theorem final_1 : (dats m (ok h) (hyps h) 0 0).arrAt 4 (cfgM m (ok h)).N = val_1 h :=
  (dats m (ok h) (hyps h) 0 0).arrAt_eq_of_after_last 4 t0_0 (whole_1 h) (val_1 h) fun j =>
    congrFun ((after0_4 m (ok h) (hyps h) 0 t0_0).trans (outs_1 h t0_0)) j

/-- The body leaves the named row of table 3 in output 3. -/
theorem outs_2 (t : Fin (cfgM m (ok h)).N) : (outsAt0 m (ok h) (hyps h) 0 t).2.2 = val_2 h := by
  unfold outsAt0
  dsimp only
  refine (out_2 (F := F) 0 _ _ _ _ _ _ _ _ _ _ _ _ _ _ _ _ _ _ (loaded_lt h)).trans ?_
  refine (congrArg (Row.row _) (place_loaded h (loaded_lt h))).trans ?_
  exact block_2 h 0 t

/-- Output window 5's one block is its whole array. -/
theorem whole_2 : ((cfgM m (ok h)).win 5).WholeAt t0_0 :=
  ⟨flush0_5 _ _, fun t _ => fin_N0 t, fun a => match a with | ⟨0, _⟩ => ⟨rfl, rfl⟩⟩

theorem final_2 : (dats m (ok h) (hyps h) 0 0).arrAt 5 (cfgM m (ok h)).N = val_2 h :=
  (dats m (ok h) (hyps h) 0 0).arrAt_eq_of_after_last 5 t0_0 (whole_2 h) (val_2 h) fun j =>
    congrFun ((after0_5 m (ok h) (hyps h) 0 t0_0).trans (outs_2 h t0_0)) j

/-- THE RUN: the three results end at the named rows, the arguments as they were, every semaphore at zero. -/
theorem run (ρ : Dev nD → PrngReg) :
    θ_run defs (onTc (τ := τ) (main (F := F))) ⟨m, fun _ => 0, ρ⟩ fun r => (∀ c : Dev nD,
      r.2.mem ((c.tc : Thread nD τ).loc main_v2_0) = val_0 h
      ∧ r.2.mem ((c.tc : Thread nD τ).loc main_v2_1) = val_1 h
      ∧ r.2.mem ((c.tc : Thread nD τ).loc main_v2_2) = val_2 h
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r hr => ⟨fun c => by
      obtain rfl : c = 0 := Subsingleton.elim _ _
      have hin : ∀ w : Fin 6, ((cfgM m (ok h)).win w).isOut = false →
          r.2.mem (((0 : Dev nD) : Thread nD τ).loc (Pipeline.arrRef spec0 w)) = V m 0 (Pipeline.arrRef spec0 w) := fun w hw =>
        ((hr.1 0).1 w).trans (((dats m (ok h) (hyps h) 0 0).arrAt_in w hw _).trans (A_eq m (ok h) (hyps h) 0 w))
      exact ⟨((hr.1 0).1 3).trans (final_0 h), ((hr.1 0).1 4).trans (final_1 h), ((hr.1 0).1 5).trans (final_2 h),
        (hin 0 rfl).trans (V_main_arg0 m 0), (hin 1 rfl).trans (V_main_arg1 m 0), (hin 2 rfl).trans (V_main_arg2 m 0),
        ((hr.1 0).2 main_arg3 (by decide : main_arg3 ∈ Pipeline.restRefs sig spec0)).trans (V_main_arg3 m 0)⟩, hr.2⟩)
    (run_main_quiescent m ρ (ok h) (hyps h))

end Cert.KernelIdeal.Hand

end
-- ==== Proof.Take.lean ====
/-
  A gather of one whole row, read at a column. The start index is one word; read signed and held inside the table it is the
  row's number, so on a word below the number of rows the gather is that row. Stated for any number of columns.
-/
module

public import proofs.«01_k».proof.Proof.Row
public import proofs.«01_k».proof.Proof.Word

@[expose] public section

namespace Cert.Take

open Idealize.ShloMosaic

variable {α : Type} {C : Nat}

/-- The dimension numbers of a gather of one row out of 200 rows of `C` columns. -/
abbrev rowDims (C : Nat) (wf : GatherDims.WF ⟨2, ![200, C]⟩ ⟨1, ![1]⟩ ⟨1, ![C]⟩ [0] [0] [] [0] [] 0 ![1, C]) :
    GatherDims ⟨2, ![200, C]⟩ ⟨1, ![1]⟩ ⟨1, ![C]⟩ where
  offsetDims := [0]
  collapsedSliceDims := [0]
  operandBatchingDims := []
  startIndicesBatchingDims := []
  startIndexMap := [0]
  indexVectorDim := 0
  sliceSizes := ![1, C]
  wf := wf

/-- The row gather at a word `v` below 200 is row `v`. -/
theorem gather_row (wf : GatherDims.WF ⟨2, ![200, C]⟩ ⟨1, ![1]⟩ ⟨1, ![C]⟩ [0] [0] [] [0] [] 0 ![1, C])
    (x : (⟨2, ![200, C]⟩ : Shape).Idx → α) (idx : IVec ⟨1, ![1]⟩ 32) (v : BitVec 32) (hidx : ∀ i, idx i = v) (h : v.toNat < 200) :
    Host.gather (rowDims C wf) x idx = Row.row x ⟨v.toNat, h⟩ := by
  funext j
  refine congrArg x (funext fun a => Fin.ext ?_)
  show (rowDims C wf).start j idx a + (rowDims C wf).batchCoord j a + (rowDims C wf).offCoord j a = _
  rw [GatherDims.batchCoord_eq_zero _ _ _ List.not_mem_nil, Nat.add_zero]
  match a with
  | ⟨0, _⟩ =>
    have hout : (0 : Fin 2) ∉ (rowDims C wf).sKept := fun hk =>
      ((GatherDims.mem_sKept _ _).mp hk).1 (List.mem_singleton.mpr rfl)
    have hstart : (rowDims C wf).start j idx (0 : Fin 2) = v.toNat := by
      unfold GatherDims.start
      rw [dif_pos (show (0 : Fin 2) ∈ (rowDims C wf).startIndexMap from List.mem_singleton.mpr rfl), hidx,
        Word.toInt_small h, Int.toNat_natCast]
      show min v.toNat (200 - 1) = _
      omega
    exact (congrArg₂ (· + ·) hstart (GatherDims.offCoord_eq_zero _ _ _ hout)).trans (Nat.add_zero _)
  | ⟨1, _⟩ =>
    have hstart : (rowDims C wf).start j idx (1 : Fin 2) = 0 := by
      unfold GatherDims.start
      exact dif_neg (show (1 : Fin 2) ∉ [(0 : Fin 2)] by decide)
    have hkept : (1 : Fin 2) ∈ (rowDims C wf).sKept :=
      (GatherDims.mem_sKept _ _).mpr ⟨show (1 : Fin 2) ∉ [(0 : Fin 2)] by decide, List.not_mem_nil⟩
    have hoff : (rowDims C wf).offCoord j (1 : Fin 2) = (j 0).val := by
      unfold GatherDims.offCoord
      rw [dif_pos hkept]
      rfl
    exact (congrArg₂ (· + ·) hstart hoff).trans (Nat.zero_add _)

end Cert.Take
-- ==== Proof.Reference.lean ====
/-
  What the reference computes, at any float instance. Each of its three takes compares the index word with zero and adds the
  number of rows to a negative one, gathers the row, and keeps the row where the index is inside the table. When the length
  less one is below 200 nothing is added and the row is kept, so each result is the named row of its table.
-/
module

public import proofs.«01_k».proof.Proof.Take
public import proofs.«01_k».proof.Proof.Gen.ReferenceIdeal.Run
public import proofs.«01_k».proof.Proof.Gen.ReferenceIdeal.Read
public import Idealize.ShloMosaic.Lib.ReduceAll
public import Idealize.ShloMosaic.Lib.Quiescent

@[expose] public section

noncomputable section

namespace Cert.ReferenceIdeal.Hand

open Cert.ReferenceIdeal Cert.ReferenceIdeal.Gen Cert.ReferenceIdeal.Read
open Idealize.ShloMosaic Idealize.ShloMosaic.TcCoe Idealize.SL.Sem

variable {F : FTy → Type} [FloatOps F]

/-- The index word of a length array: the length less one. -/
def wordOf (x3 : (⟨S1, .i32⟩ : BufTy).Contents (Elt F)) : BitVec 32 :=
  (show IVec S1 32 from x3) (ix1 0) - 1#32

variable {x3 : (⟨S1, .i32⟩ : BufTy).Contents (Elt F)} (h : (wordOf x3).toNat < 200)

/-- The scalar index is the index word. -/
theorem index_word (i : S_.Idx) : val_main_v1 (F := F) x3 i = wordOf x3 := by
  have e : val_main_v0 (F := F) x3 i = (show IVec S1 32 from x3) (ix1 0) :=
    shapeCast_apply _ _ _ _ (Subsingleton.elim (α := Fin 1) _ _ |> congrArg Fin.val)
  rw [val_main_v1_apply, e]
  rfl

include h

/-- The start index of the gathers is the index word: it is not negative, so nothing is added. -/
theorem start_word (i : S1.Idx) : val_main_call0_v3 (F := F) x3 i = wordOf x3 := by
  rw [val_main_call0_v3_apply, val_main_call0_v2_apply, val_main_call0_v0_apply, val_main_call0_c_apply, index_word]
  have hneg : IntOp.cmpi .slt (wordOf x3) 0#32 = 0#1 := by
    have := Word.toInt_small h
    unfold IntOp.cmpi BitVec.slt
    rw [this, BitVec.toInt_zero]
    rw [decide_eq_false (by omega)]
    rfl
  rw [hneg]
  rfl

/-- The index lies inside the table, so the mask is one. -/
theorem mask_one (i : S_.Idx) : val_main_call0_v8 (F := F) x3 i = 1#1 := by
  refine Host.reduce_andi_one _ _ _ _ _ rfl fun j => ?_
  rw [val_main_call0_v7_apply, val_main_call0_v5_apply, val_main_call0_v6_apply, start_word h, val_main_call0_v4_apply,
    val_main_call0_c_1_apply, val_main_call0_c_2_apply]
  have := Word.toInt_small h
  refine (Word.bits_one _ _).mpr ⟨?_, ?_⟩
  · simp only [BitVec.sle, this]; simp
  · simp only [BitVec.sle, this]; simp; omega

/-- Result 1 is the named row of table 1. -/
theorem val_0 (x : (⟨S200x1000, .f32⟩ : BufTy).Contents (Elt F)) :
    val_main_v2 (F := F) x x3 = Row.row (N := 200) (C := 1000) x ⟨(wordOf x3).toNat, h⟩ := by
  refine Eq.trans (funext fun j => ?_)
    (Take.gather_row gather_S200x1000_S1_S1000_0_0_n_n_0_0_11000_wf x (val_main_call0_v3 (F := F) x3) _ (start_word h) h)
  have hm : val_main_call0_v10 (F := F) x3 j = 1#1 := (val_main_call0_v10_apply x3 j).trans (mask_one h _)
  rw [val_main_v2_apply, hm]
  rfl

/-- Result 2 is the named row of table 2. -/
theorem val_1 (x : (⟨S200x100000, .f32⟩ : BufTy).Contents (Elt F)) :
    val_main_v3 (F := F) x x3 = Row.row (N := 200) (C := 100000) x ⟨(wordOf x3).toNat, h⟩ := by
  refine Eq.trans (funext fun j => ?_)
    (Take.gather_row gather_S200x100000_S1_S100000_0_0_n_n_0_0_1100000_wf x (val_main_call0_v3 (F := F) x3) _ (start_word h) h)
  have hm : val_main_call1_v10 (F := F) x3 j = 1#1 := (val_main_call1_v10_apply x3 j).trans (mask_one h _)
  rw [val_main_v3_apply, hm]
  rfl

/-- Result 3 is the named row of table 3. -/
theorem val_2 (x : (⟨S200x200, .f32⟩ : BufTy).Contents (Elt F)) :
    val_main_v4 (F := F) x x3 = Row.row (N := 200) (C := 200) x ⟨(wordOf x3).toNat, h⟩ := by
  refine Eq.trans (funext fun j => ?_)
    (Take.gather_row gather_S200x200_S1_S200_0_0_n_n_0_0_1200_wf x (val_main_call0_v3 (F := F) x3) _ (start_word h) h)
  have hm : val_main_call2_v10 (F := F) x3 j = 1#1 := (val_main_call2_v10_apply x3 j).trans (mask_one h _)
  rw [val_main_v4_apply, hm]
  rfl

omit h

/-- THE RUN: from a memory whose length less one is below 200, the results end at the named rows of the tables. -/
theorem run (m : (ℓ : Loc nD τ sig) → Buf (Elt F) ℓ) (ρ : Dev nD → PrngReg)
    (hw : ∀ c : Dev nD, (wordOf (F := F) (m ((c : Thread nD τ).loc main_arg3))).toNat < 200) :
    θ_run defs (onTc (τ := τ) (main (F := F))) ⟨m, fun _ => 0, ρ⟩ fun r => ∀ c : Dev nD,
      r.2.mem ((c.tc : Thread nD τ).loc main_v2) = Row.row (N := 200) (C := 1000) (m ((c : Thread nD τ).loc main_arg0)) ⟨_, hw c⟩
      ∧ r.2.mem ((c.tc : Thread nD τ).loc main_v3) = Row.row (N := 200) (C := 100000) (m ((c : Thread nD τ).loc main_arg1)) ⟨_, hw c⟩
      ∧ r.2.mem ((c.tc : Thread nD τ).loc main_v4) = Row.row (N := 200) (C := 200) (m ((c : Thread nD τ).loc main_arg2)) ⟨_, hw c⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ hr c => by
      obtain ⟨h2, h3, h4, hargs⟩ := hr c
      exact ⟨h2.trans ((val_main_v2_eq _ _).trans (val_0 (hw c) _)), h3.trans ((val_main_v3_eq _ _).trans (val_1 (hw c) _)),
        h4.trans ((val_main_v4_eq _ _).trans (val_2 (hw c) _)), hargs⟩)
    (Cert.ReferenceIdeal.Value.run m ρ)

/-- THE FRAME, from any memory: the arguments end as they were and every semaphore at zero (the program has none). -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r hr => ⟨fun c => (hr c).2.2.2, sem_eq_zero_of_no_sems (by decide) r.2⟩)
    (Cert.ReferenceIdeal.Value.run m ρ)

end Cert.ReferenceIdeal.Hand

end
-- ==== Proof.Same.lean ====
/-
  The kernel and its idealization are one text. Here that is said of the two programs, part by part, at the machine's floats:
  the body's table, the calls' table, the one outlined function, the whole program. So a run of one is a run of the other.
  The reference and its idealization likewise, at once.
-/
module

public import proofs.«01_k».proof.Proof.Gen.Kernel
public import proofs.«01_k».proof.Proof.Gen.KernelIdeal
public import proofs.«01_k».proof.Proof.Gen.Reference
public import proofs.«01_k».proof.Proof.Gen.ReferenceIdeal
public import Idealize.ShloMosaic.PureOps.BitExact

@[expose] public section

noncomputable section

namespace Cert.Same

open Idealize Idealize.ShloMosaic Idealize.SL.Sem

theorem body_eq : ∀ p ℓ a, Kernel.defs₀ (F := Bits) p ℓ a = KernelIdeal.defs₀ (F := Bits) p ℓ a := by
  intro p ℓ a
  match p, ℓ, a with
  | .tc, 0, (t, s) => rfl
  | .scScalar _, _, _ => rfl
  | .scVector _ _, _, _ => rfl

theorem bodies_eq : (fun p => Kernel.defs₀ (F := Bits) p) = fun p => KernelIdeal.defs₀ (F := Bits) p :=
  funext fun p => funext fun ℓ => funext fun a => body_eq p ℓ a

theorem defs_eq : (fun p => Kernel.defs (F := Bits) p) = fun p => KernelIdeal.defs (F := Bits) p := by
  unfold Kernel.defs KernelIdeal.defs
  exact congrArg (fun d => Pipeline.defs (KernelIdeal.pcfgs (F := Bits)) d) bodies_eq

theorem call_eq :
    Kernel.fn_select_rows.body (F := Bits) (.of Kernel.main_v1) (.of Kernel.main_arg0) (.of Kernel.main_arg1) (.of Kernel.main_arg2) Kernel.main_call0
      = KernelIdeal.fn_select_rows.body (F := Bits) (.of KernelIdeal.main_v1) (.of KernelIdeal.main_arg0) (.of KernelIdeal.main_arg1)
          (.of KernelIdeal.main_arg2) KernelIdeal.main_call0 := by
  unfold Kernel.fn_select_rows.body KernelIdeal.fn_select_rows.body
  rfl

theorem main_eq : Kernel.main (F := Bits) = KernelIdeal.main (F := Bits) := by
  unfold Kernel.main KernelIdeal.main
  rw [call_eq]
  rfl

/-- What every run of the idealization's program at the machine's floats ends at, every run of the kernel ends at. -/
theorem of_run {s : MemSt Kernel.nD Kernel.τ Kernel.sig (Elt Bits)} {Q}
    (h : θ_run (KernelIdeal.defs (F := Bits)) (onTc (τ := KernelIdeal.τ) (KernelIdeal.main (F := Bits))) s Q) :
    θ_run (Kernel.defs (F := Bits)) (onTc (τ := Kernel.τ) (Kernel.main (F := Bits))) s Q :=
  (congrArg₂ (fun d p => θ_run d (onTc (τ := KernelIdeal.τ) p) s Q) defs_eq main_eq).mpr h

set_option maxHeartbeats 1600000 in
theorem reference_main_eq : Reference.main (F := Bits) = ReferenceIdeal.main (F := Bits) := rfl

/-- And the reference's runs, from its idealization's. -/
theorem of_reference_run {s : MemSt Reference.nD Reference.τ Reference.sig (Elt Bits)} {Q}
    (h : θ_run (ReferenceIdeal.defs (F := Bits)) (onTc (τ := ReferenceIdeal.τ) (ReferenceIdeal.main (F := Bits))) s Q) :
    θ_run (Reference.defs (F := Bits)) (onTc (τ := Reference.τ) (Reference.main (F := Bits))) s Q :=
  (congrArg (fun p => θ_run (ReferenceIdeal.defs (F := Bits)) (onTc (τ := ReferenceIdeal.τ) p) s Q) reference_main_eq).mpr h

end Cert.Same
-- ==== Proof.Claims.lean ====
/-
  The claims. The precondition puts the length in 1 … 200, so the index word is below 200. Then the kernel's three results and
  the reference's are one row each of the same tables, at the machine's floats and at the extended reals. The kernel and its
  idealization are one text, and so are the reference and its idealization: each run is proved once, at any float instance.
-/
module

public import proofs.«01_k».proof.Defs
public import proofs.«01_k».proof.Proof.Result
public import proofs.«01_k».proof.Proof.Reference
public import proofs.«01_k».proof.Proof.Same
public import proofs.«01_k».proof.Proof.Gen.Reference
public import proofs.«01_k».proof.Proof.Gen.Pre_length_in_range

@[expose] public section

noncomputable section

namespace Cert.Hand

open Idealize.ShloMosaic Idealize.ShloMosaic.TcCoe Idealize.SL.Sem

/-- The precondition, read: the length less one is below 200. -/
theorem word_lt {F : FTy → Type} [FloatOps F] {a0 a1 a2} {x3 : (⟨KernelIdeal.S1, .i32⟩ : BufTy).Contents (Elt F)}
    (h : Pre_length_in_range.fn (F := F) a0 a1 a2 x3 = fun _ => 1#1) : (ReferenceIdeal.Hand.wordOf (F := F) x3).toNat < 200 := by
  have hb := congrFun h ix0
  unfold Pre_length_in_range.fn at hb
  have e : ∀ hc, shapeCast KernelIdeal.S_ (show IVec KernelIdeal.S1 32 from x3) hc ix0 = (show IVec KernelIdeal.S1 32 from x3) (ix1 0) :=
    fun hc => shapeCast_apply _ hc _ _ (congrArg Fin.val (Subsingleton.elim (α := Fin 1) _ _))
  obtain ⟨h1, h2⟩ := (Word.bits_one _ _).mp hb
  have low : (1#32).sle ((show IVec KernelIdeal.S1 32 from x3) (ix1 0)) = true := (congrArg (BitVec.sle 1#32) (e _)).symm.trans h1
  have high : ((show IVec KernelIdeal.S1 32 from x3) (ix1 0)).sle 200#32 = true := (congrArg (BitVec.sle · 200#32) (e _)).symm.trans h2
  exact Word.pred_lt (of_decide_eq_true low) (of_decide_eq_true high)

variable {F : FTy → Type} [FloatOps F]
variable (m : (ℓ : Loc KernelIdeal.nD KernelIdeal.τ KernelIdeal.sig) → Buf (Elt F) ℓ) (g : Dev KernelIdeal.nD → PrngReg)
variable (m' : (ℓ : Loc ReferenceIdeal.nD ReferenceIdeal.τ ReferenceIdeal.sig) → Buf (Elt F) ℓ) (g' : Dev ReferenceIdeal.nD → PrngReg)

/-- The precondition on a memory of the kernel, at any float instance. -/
abbrev Pre : Prop := ∀ c : Dev KernelIdeal.nD,
  Pre_length_in_range.fn (F := F) (m ((c : Thread KernelIdeal.nD KernelIdeal.τ).loc KernelIdeal.main_arg0))
    (m ((c : Thread KernelIdeal.nD KernelIdeal.τ).loc KernelIdeal.main_arg1))
    (m ((c : Thread KernelIdeal.nD KernelIdeal.τ).loc KernelIdeal.main_arg2))
    (m ((c : Thread KernelIdeal.nD KernelIdeal.τ).loc KernelIdeal.main_arg3)) = fun _ => 1#1

/-- The two memories hold the same arguments. -/
abbrev Agree : Prop := ∀ c : Dev KernelIdeal.nD,
  m' ((c : Thread ReferenceIdeal.nD ReferenceIdeal.τ).loc ReferenceIdeal.main_arg0) = m ((c : Thread KernelIdeal.nD KernelIdeal.τ).loc KernelIdeal.main_arg0)
  ∧ m' ((c : Thread ReferenceIdeal.nD ReferenceIdeal.τ).loc ReferenceIdeal.main_arg1) = m ((c : Thread KernelIdeal.nD KernelIdeal.τ).loc KernelIdeal.main_arg1)
  ∧ m' ((c : Thread ReferenceIdeal.nD ReferenceIdeal.τ).loc ReferenceIdeal.main_arg2) = m ((c : Thread KernelIdeal.nD KernelIdeal.τ).loc KernelIdeal.main_arg2)
  ∧ m' ((c : Thread ReferenceIdeal.nD ReferenceIdeal.τ).loc ReferenceIdeal.main_arg3) = m ((c : Thread KernelIdeal.nD KernelIdeal.τ).loc KernelIdeal.main_arg3)

variable {m m'}

/-- Under the precondition the kernel's index word is below 200. -/
theorem kernel_word_lt (hpre : Pre m) : (KernelIdeal.Hand.word m).toNat < 200 := word_lt (hpre 0)

/-- The reference's run, from a memory with the kernel's arguments, ends at the rows the kernel's run ends at. -/
theorem reference_run (hpre : Pre m) (hag : Agree m m') :
    θ_run ReferenceIdeal.defs (onTc (τ := ReferenceIdeal.τ) (ReferenceIdeal.main (F := F))) ⟨m', fun _ => 0, g'⟩ fun r =>
      ∀ c : Dev ReferenceIdeal.nD,
      r.2.mem ((c.tc : Thread ReferenceIdeal.nD ReferenceIdeal.τ).loc ReferenceIdeal.main_v2) = KernelIdeal.Hand.val_0 (kernel_word_lt hpre)
      ∧ r.2.mem ((c.tc : Thread ReferenceIdeal.nD ReferenceIdeal.τ).loc ReferenceIdeal.main_v3) = KernelIdeal.Hand.val_1 (kernel_word_lt hpre)
      ∧ r.2.mem ((c.tc : Thread ReferenceIdeal.nD ReferenceIdeal.τ).loc ReferenceIdeal.main_v4) = KernelIdeal.Hand.val_2 (kernel_word_lt hpre)
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3) := by
  have hword : ∀ c : Dev ReferenceIdeal.nD, ReferenceIdeal.Hand.wordOf (F := F)
      (m' ((c : Thread ReferenceIdeal.nD ReferenceIdeal.τ).loc ReferenceIdeal.main_arg3)) = KernelIdeal.Hand.word m := fun c => by
    obtain rfl : c = 0 := Subsingleton.elim _ _
    exact congrArg (ReferenceIdeal.Hand.wordOf (F := F)) (hag 0).2.2.2
  have hlt : ∀ c : Dev ReferenceIdeal.nD, (ReferenceIdeal.Hand.wordOf (F := F)
      (m' ((c : Thread ReferenceIdeal.nD ReferenceIdeal.τ).loc ReferenceIdeal.main_arg3))).toNat < 200 := fun c => by
    rw [hword c]; exact kernel_word_lt hpre
  refine (θ_run ReferenceIdeal.defs _ _).mono (fun r hr c => ?_) (ReferenceIdeal.Hand.run m' g' hlt)
  obtain rfl : c = 0 := Subsingleton.elim _ _
  obtain ⟨h0, h1, h2, hargs⟩ := hr 0
  have hk : (⟨_, hlt 0⟩ : Fin 200) = KernelIdeal.Hand.pick (kernel_word_lt hpre) := Fin.ext (congrArg BitVec.toNat (hword 0))
  exact ⟨h0.trans (congrArg₂ (Row.row (N := 200) (C := 1000)) (hag 0).1 hk),
    h1.trans (congrArg₂ (Row.row (N := 200) (C := 100000)) (hag 0).2.1 hk),
    h2.trans (congrArg₂ (Row.row (N := 200) (C := 200)) (hag 0).2.2.1 hk), hargs⟩

/-! ## The claims -/

theorem frame_kernel : Cert.quiescent_Kernel := fun m ρ hpre =>
  Same.of_run ((θ_run KernelIdeal.defs _ _).mono (fun _ hr => ⟨fun c => (hr.1 c).2.2.2, hr.2⟩)
    (KernelIdeal.Hand.run (F := Bits) (kernel_word_lt (m := m) hpre) ρ))

theorem frame_kernelIdeal : Cert.quiescent_KernelIdeal := fun m ρ hpre =>
  (θ_run KernelIdeal.defs _ _).mono (fun _ hr => ⟨fun c => (hr.1 c).2.2.2, hr.2⟩)
    (KernelIdeal.Hand.run (F := Ideal) (kernel_word_lt (m := m) hpre) ρ)

theorem frame_referenceIdeal : Cert.quiescent_ReferenceIdeal := fun m ρ _ => ReferenceIdeal.Hand.frame m ρ

theorem frame_referenceIdeal_pre : Cert.quiescent_ReferenceIdeal_pre_length_in_range := fun m ρ _ => ReferenceIdeal.Hand.frame m ρ

theorem frame_reference : Cert.quiescent_Reference := fun m ρ _ =>
  Same.of_reference_run (ReferenceIdeal.Hand.frame (F := Bits) m ρ)

/-- At the machine's floats, kernel and reference end with equal results, bit by bit. -/
theorem bitexact : Cert.bitexact_Kernel_Reference := fun m g m' g' hpre hag => by
  have hp : Pre (F := Bits) m := hpre
  have ha : Agree (F := Bits) m m' := hag
  refine ⟨fun _ => KernelIdeal.Hand.val_0 (kernel_word_lt hp), fun _ => KernelIdeal.Hand.val_1 (kernel_word_lt hp),
    fun _ => KernelIdeal.Hand.val_2 (kernel_word_lt hp), ?_, ?_⟩
  · have hr := (θ_run KernelIdeal.defs _ _).mono (fun _ hr => hr.1) (KernelIdeal.Hand.run (F := Bits) (kernel_word_lt hp) g)
    exact Same.of_run hr
  · have hr := reference_run (F := Bits) g' hp ha
    exact Same.of_reference_run hr

/-- At the extended reals, likewise. -/
theorem algebraic : Cert.algebraic_KernelIdeal_ReferenceIdeal := fun m g m' g' hpre hag =>
  ⟨fun _ => KernelIdeal.Hand.val_0 (F := Ideal) (kernel_word_lt (m := m) hpre),
    fun _ => KernelIdeal.Hand.val_1 (F := Ideal) (kernel_word_lt (m := m) hpre),
    fun _ => KernelIdeal.Hand.val_2 (F := Ideal) (kernel_word_lt (m := m) hpre),
    (θ_run KernelIdeal.defs _ _).mono (fun _ hr => hr.1) (KernelIdeal.Hand.run (F := Ideal) (kernel_word_lt (m := m) hpre) g),
    reference_run (F := Ideal) (m := m) (m' := m') g' hpre hag⟩

end Cert.Hand

end
-- ==== Proof.lean ====
/-
  The proof of everything claimed: the facts the programs state, the four frames, the frame of the reference's idealization
  under the precondition, the idealization of the kernel (no operation of it is replaced, so nothing is to be shown), and the
  two value claims.
-/
module

public import proofs.«01_k».proof.Defs
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts, Cert.Reference.Gen.facts,
    Cert.Pre_length_in_range.Gen.facts, Hand.frame_kernel, Hand.frame_kernelIdeal, Hand.frame_referenceIdeal,
    Hand.frame_referenceIdeal_pre, Hand.frame_reference, trivial, Hand.bitexact, Hand.algebraic⟩

end Cert.Proof

end
